-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x40x40 : Shape := ⟨4, ![4, 256, 40, 40]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S14400x4 : Shape := ⟨2, ![14400, 4]⟩
abbrev S4x40x40x256 : Shape := ⟨4, ![4, 40, 40, 256]⟩
abbrev S_ : Shape := ⟨0, ![]⟩
abbrev S4x42x42x256 : Shape := ⟨4, ![4, 42, 42, 256]⟩
abbrev S3x3x256x256 : Shape := ⟨4, ![3, 3, 256, 256]⟩
abbrev S9x256x256 : Shape := ⟨3, ![9, 256, 256]⟩
abbrev S9x256 : Shape := ⟨2, ![9, 256]⟩
abbrev S36x256 : Shape := ⟨2, ![36, 256]⟩
abbrev S1x256 : Shape := ⟨2, ![1, 256]⟩
abbrev S9x1 : Shape := ⟨2, ![9, 1]⟩
abbrev S36x1 : Shape := ⟨2, ![36, 1]⟩
abbrev S4x9x40x40 : Shape := ⟨4, ![4, 9, 40, 40]⟩
abbrev S4x36x1600 : Shape := ⟨3, ![4, 36, 1600]⟩
abbrev S1x42x42x256 : Shape := ⟨4, ![1, 42, 42, 256]⟩
abbrev S1x9x40x40 : Shape := ⟨4, ![1, 9, 40, 40]⟩
abbrev S1x36x1600 : Shape := ⟨3, ![1, 36, 1600]⟩
abbrev S42x42x256 : Shape := ⟨3, ![42, 42, 256]⟩
abbrev S1600x256 : Shape := ⟨2, ![1600, 256]⟩
abbrev S40x40x256 : Shape := ⟨3, ![40, 40, 256]⟩
abbrev S1x256x256 : Shape := ⟨3, ![1, 256, 256]⟩
abbrev S256x256 : Shape := ⟨2, ![256, 256]⟩
abbrev S9x1600 : Shape := ⟨2, ![9, 1600]⟩
abbrev S36x1600 : Shape := ⟨2, ![36, 1600]⟩
abbrev S9x40 : Shape := ⟨2, ![9, 40]⟩
abbrev S1x9x1x40 : Shape := ⟨4, ![1, 9, 1, 40]⟩
abbrev S4x14400x1 : Shape := ⟨3, ![4, 14400, 1]⟩
abbrev S4x9x4x1600 : Shape := ⟨4, ![4, 9, 4, 1600]⟩
abbrev S4x1600x9x4 : Shape := ⟨4, ![4, 1600, 9, 4]⟩
abbrev S4x14400x4 : Shape := ⟨3, ![4, 14400, 4]⟩
abbrev S1x14400x4 : Shape := ⟨3, ![1, 14400, 4]⟩

abbrev nBuf : Space → Nat
  | .hbm => 32
  | .vmem => 12
  | .smem => 0
  | _ => 0

abbrev bufTy : (tb : Table) → Fin (tcTables nBuf tb) → BufTy
  | .hbm, ⟨0, _⟩ => ⟨S4x256x40x40, .f32⟩
  | .hbm, ⟨1, _⟩ => ⟨S256x256x3x3, .f32⟩
  | .hbm, ⟨2, _⟩ => ⟨S256, .f32⟩
  | .hbm, ⟨3, _⟩ => ⟨S9x256x1x1, .f32⟩
  | .hbm, ⟨4, _⟩ => ⟨S9, .f32⟩
  | .hbm, ⟨5, _⟩ => ⟨S36x256x1x1, .f32⟩
  | .hbm, ⟨6, _⟩ => ⟨S36, .f32⟩
  | .hbm, ⟨7, _⟩ => ⟨S14400x4, .f32⟩
  | .hbm, ⟨8, _⟩ => ⟨S4x40x40x256, .f32⟩
  | .hbm, ⟨9, _⟩ => ⟨S_, .i32⟩
  | .hbm, ⟨10, _⟩ => ⟨S_, .f32⟩
  | .hbm, ⟨11, _⟩ => ⟨S4x42x42x256, .f32⟩
  | .hbm, ⟨12, _⟩ => ⟨S4x42x42x256, .bf16⟩
  | .hbm, ⟨13, _⟩ => ⟨S3x3x256x256, .f32⟩
  | .hbm, ⟨14, _⟩ => ⟨S9x256x256, .f32⟩
  | .hbm, ⟨15, _⟩ => ⟨S9x256x256, .bf16⟩
  | .hbm, ⟨16, _⟩ => ⟨S9x256, .f32⟩
  | .hbm, ⟨17, _⟩ => ⟨S9x256, .bf16⟩
  | .hbm, ⟨18, _⟩ => ⟨S36x256, .f32⟩
  | .hbm, ⟨19, _⟩ => ⟨S36x256, .bf16⟩
  | .hbm, ⟨20, _⟩ => ⟨S1x256, .f32⟩
  | .hbm, ⟨21, _⟩ => ⟨S9x1, .f32⟩
  | .hbm, ⟨22, _⟩ => ⟨S36x1, .f32⟩
  | .hbm, ⟨23, _⟩ => ⟨S4x9x40x40, .f32⟩
  | .hbm, ⟨24, _⟩ => ⟨S4x36x1600, .bf16⟩
  | .hbm, ⟨25, _⟩ => ⟨S4x14400x1, .f32⟩
  | .hbm, ⟨26, _⟩ => ⟨S4x9x4x1600, .bf16⟩
  | .hbm, ⟨27, _⟩ => ⟨S4x1600x9x4, .bf16⟩
  | .hbm, ⟨28, _⟩ => ⟨S4x14400x4, .bf16⟩
  | .hbm, ⟨29, _⟩ => ⟨S4x14400x4, .f32⟩
  | .hbm, ⟨30, _⟩ => ⟨S1x14400x4, .f32⟩
  | .hbm, ⟨31, _⟩ => ⟨S4x14400x4, .f32⟩
  | .local _ .vmem, ⟨0, _⟩ => ⟨S1x42x42x256, .bf16⟩
  | .local _ .vmem, ⟨1, _⟩ => ⟨S1x42x42x256, .bf16⟩
  | .local _ .vmem, ⟨2, _⟩ => ⟨S9x256x256, .bf16⟩
  | .local _ .vmem, ⟨3, _⟩ => ⟨S1x256, .f32⟩
  | .local _ .vmem, ⟨4, _⟩ => ⟨S9x256, .bf16⟩
  | .local _ .vmem, ⟨5, _⟩ => ⟨S9x1, .f32⟩
  | .local _ .vmem, ⟨6, _⟩ => ⟨S36x256, .bf16⟩
  | .local _ .vmem, ⟨7, _⟩ => ⟨S36x1, .f32⟩
  | .local _ .vmem, ⟨8, _⟩ => ⟨S1x9x40x40, .f32⟩
  | .local _ .vmem, ⟨9, _⟩ => ⟨S1x9x40x40, .f32⟩
  | .local _ .vmem, ⟨10, _⟩ => ⟨S1x36x1600, .bf16⟩
  | .local _ .vmem, ⟨11, _⟩ => ⟨S1x36x1600, .bf16⟩
  | _, _ => ⟨S4x256x40x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x42x42x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S36x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S36x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x9x40x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x36x1600 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x256x40x40 : Shape := ⟨4, ![4, 256, 40, 40]⟩
abbrev S256x256x3x3 : Shape := ⟨4, ![256, 256, 3, 3]⟩
abbrev S256 : Shape := ⟨1, ![256]⟩
abbrev S9x256x1x1 : Shape := ⟨4, ![9, 256, 1, 1]⟩
abbrev S9 : Shape := ⟨1, ![9]⟩
abbrev S36x256x1x1 : Shape := ⟨4, ![36, 256, 1, 1]⟩
abbrev S36 : Shape := ⟨1, ![36]⟩
abbrev S9x2 : Shape := ⟨2, ![9, 2]⟩
abbrev S_ : Shape := ⟨0, ![]⟩
abbrev S4x256x42x42 : Shape := ⟨4, ![4, 256, 42, 42]⟩
abbrev S4x256x1x40x40 : Shape := ⟨5, ![4, 256, 1, 40, 40]⟩
abbrev S4x256x9x40x40 : Shape := ⟨5, ![4, 256, 9, 40, 40]⟩
abbrev S256x256x9 : Shape := ⟨3, ![256, 256, 9]⟩
abbrev S4x40x40x256 : Shape := ⟨4, ![4, 40, 40, 256]⟩
abbrev S1x256x1x1 : Shape := ⟨4, ![1, 256, 1, 1]⟩
abbrev S9x256 : Shape := ⟨2, ![9, 256]⟩
abbrev S4x40x40x9 : Shape := ⟨4, ![4, 40, 40, 9]⟩
abbrev S4x9x40x40 : Shape := ⟨4, ![4, 9, 40, 40]⟩
abbrev S1x9x1x1 : Shape := ⟨4, ![1, 9, 1, 1]⟩
abbrev S36x256 : Shape := ⟨2, ![36, 256]⟩
abbrev S4x40x40x36 : Shape := ⟨4, ![4, 40, 40, 36]⟩
abbrev S4x36x40x40 : Shape := ⟨4, ![4, 36, 40, 40]⟩
abbrev S1x36x1x1 : Shape := ⟨4, ![1, 36, 1, 1]⟩
abbrev S4x14400x1 : Shape := ⟨3, ![4, 14400, 1]⟩
abbrev S4x9x4x40x40 : Shape := ⟨5, ![4, 9, 4, 40, 40]⟩
abbrev S4x40x40x9x4 : Shape := ⟨5, ![4, 40, 40, 9, 4]⟩
abbrev S4x14400x4 : Shape := ⟨3, ![4, 14400, 4]⟩
abbrev S40 : Shape := ⟨1, ![40]⟩
abbrev S40x40 : Shape := ⟨2, ![40, 40]⟩
abbrev S40x40x1 : Shape := ⟨3, ![40, 40, 1]⟩
abbrev S40x40x9 : Shape := ⟨3, ![40, 40, 9]⟩
abbrev S9x1 : Shape := ⟨2, ![9, 1]⟩
abbrev S1x1x9 : Shape := ⟨3, ![1, 1, 9]⟩
abbrev S40x40x9x1 : Shape := ⟨4, ![40, 40, 9, 1]⟩
abbrev S40x40x9x4 : Shape := ⟨4, ![40, 40, 9, 4]⟩
abbrev S14400x4 : Shape := ⟨2, ![14400, 4]⟩
abbrev S1x14400x4 : Shape := ⟨3, ![1, 14400, 4]⟩

abbrev nBuf : Space → Nat
  | .hbm => 91
  | .vmem => 0
  | .smem => 0
  | _ => 0

abbrev bufTy : (tb : Table) → Fin (tcTables nBuf tb) → BufTy
  | .hbm, ⟨0, _⟩ => ⟨S4x256x40x40, .f32⟩
  | .hbm, ⟨1, _⟩ => ⟨S256x256x3x3, .f32⟩
  | .hbm, ⟨2, _⟩ => ⟨S256, .f32⟩
  | .hbm, ⟨3, _⟩ => ⟨S9x256x1x1, .f32⟩
  | .hbm, ⟨4, _⟩ => ⟨S9, .f32⟩
  | .hbm, ⟨5, _⟩ => ⟨S36x256x1x1, .f32⟩
  | .hbm, ⟨6, _⟩ => ⟨S36, .f32⟩
  | .hbm, ⟨7, _⟩ => ⟨S9x2, .f32⟩
  | .hbm, ⟨8, _⟩ => ⟨S_, .i32⟩
  | .hbm, ⟨9, _⟩ => ⟨S_, .f32⟩
  | .hbm, ⟨10, _⟩ => ⟨S4x256x42x42, .f32⟩
  | .hbm, ⟨11, _⟩ => ⟨S4x256x40x40, .f32⟩
  | .hbm, ⟨12, _⟩ => ⟨S4x256x40x40, .f32⟩
  | .hbm, ⟨13, _⟩ => ⟨S4x256x40x40, .f32⟩
  | .hbm, ⟨14, _⟩ => ⟨S4x256x40x40, .f32⟩
  | .hbm, ⟨15, _⟩ => ⟨S4x256x40x40, .f32⟩
  | .hbm, ⟨16, _⟩ => ⟨S4x256x40x40, .f32⟩
  | .hbm, ⟨17, _⟩ => ⟨S4x256x40x40, .f32⟩
  | .hbm, ⟨18, _⟩ => ⟨S4x256x40x40, .f32⟩
  | .hbm, ⟨19, _⟩ => ⟨S4x256x40x40, .f32⟩
  | .hbm, ⟨20, _⟩ => ⟨S4x256x1x40x40, .f32⟩
  | .hbm, ⟨21, _⟩ => ⟨S4x256x1x40x40, .f32⟩
  | .hbm, ⟨22, _⟩ => ⟨S4x256x1x40x40, .f32⟩
  | .hbm, ⟨23, _⟩ => ⟨S4x256x1x40x40, .f32⟩
  | .hbm, ⟨24, _⟩ => ⟨S4x256x1x40x40, .f32⟩
  | .hbm, ⟨25, _⟩ => ⟨S4x256x1x40x40, .f32⟩
  | .hbm, ⟨26, _⟩ => ⟨S4x256x1x40x40, .f32⟩
  | .hbm, ⟨27, _⟩ => ⟨S4x256x1x40x40, .f32⟩
  | .hbm, ⟨28, _⟩ => ⟨S4x256x1x40x40, .f32⟩
  | .hbm, ⟨29, _⟩ => ⟨S4x256x9x40x40, .f32⟩
  | .hbm, ⟨30, _⟩ => ⟨S256x256x9, .f32⟩
  | .hbm, ⟨31, _⟩ => ⟨S4x40x40x256, .f32⟩
  | .hbm, ⟨32, _⟩ => ⟨S4x256x40x40, .f32⟩
  | .hbm, ⟨33, _⟩ => ⟨S1x256x1x1, .f32⟩
  | .hbm, ⟨34, _⟩ => ⟨S4x256x40x40, .f32⟩
  | .hbm, ⟨35, _⟩ => ⟨S4x256x40x40, .f32⟩
  | .hbm, ⟨36, _⟩ => ⟨S_, .f32⟩
  | .hbm, ⟨37, _⟩ => ⟨S4x256x40x40, .f32⟩
  | .hbm, ⟨38, _⟩ => ⟨S4x256x40x40, .f32⟩
  | .hbm, ⟨39, _⟩ => ⟨S9x256, .f32⟩
  | .hbm, ⟨40, _⟩ => ⟨S4x40x40x9, .f32⟩
  | .hbm, ⟨41, _⟩ => ⟨S4x9x40x40, .f32⟩
  | .hbm, ⟨42, _⟩ => ⟨S1x9x1x1, .f32⟩
  | .hbm, ⟨43, _⟩ => ⟨S4x9x40x40, .f32⟩
  | .hbm, ⟨44, _⟩ => ⟨S4x9x40x40, .f32⟩
  | .hbm, ⟨45, _⟩ => ⟨S36x256, .f32⟩
  | .hbm, ⟨46, _⟩ => ⟨S4x40x40x36, .f32⟩
  | .hbm, ⟨47, _⟩ => ⟨S4x36x40x40, .f32⟩
  | .hbm, ⟨48, _⟩ => ⟨S1x36x1x1, .f32⟩
  | .hbm, ⟨49, _⟩ => ⟨S4x36x40x40, .f32⟩
  | .hbm, ⟨50, _⟩ => ⟨S4x36x40x40, .f32⟩
  | .hbm, ⟨51, _⟩ => ⟨S4x14400x1, .f32⟩
  | .hbm, ⟨52, _⟩ => ⟨S4x9x4x40x40, .f32⟩
  | .hbm, ⟨53, _⟩ => ⟨S4x40x40x9x4, .f32⟩
  | .hbm, ⟨54, _⟩ => ⟨S4x14400x4, .f32⟩
  | .hbm, ⟨55, _⟩ => ⟨S40, .f32⟩
  | .hbm, ⟨56, _⟩ => ⟨S_, .f32⟩
  | .hbm, ⟨57, _⟩ => ⟨S40, .f32⟩
  | .hbm, ⟨58, _⟩ => ⟨S40, .f32⟩
  | .hbm, ⟨59, _⟩ => ⟨S_, .f32⟩
  | .hbm, ⟨60, _⟩ => ⟨S40, .f32⟩
  | .hbm, ⟨61, _⟩ => ⟨S40, .f32⟩
  | .hbm, ⟨62, _⟩ => ⟨S40, .f32⟩
  | .hbm, ⟨63, _⟩ => ⟨S_, .f32⟩
  | .hbm, ⟨64, _⟩ => ⟨S40, .f32⟩
  | .hbm, ⟨65, _⟩ => ⟨S40, .f32⟩
  | .hbm, ⟨66, _⟩ => ⟨S_, .f32⟩
  | .hbm, ⟨67, _⟩ => ⟨S40, .f32⟩
  | .hbm, ⟨68, _⟩ => ⟨S40, .f32⟩
  | .hbm, ⟨69, _⟩ => ⟨S40x40, .f32⟩
  | .hbm, ⟨70, _⟩ => ⟨S40x40, .f32⟩
  | .hbm, ⟨71, _⟩ => ⟨S40x40x1, .f32⟩
  | .hbm, ⟨72, _⟩ => ⟨S40x40x9, .f32⟩
  | .hbm, ⟨73, _⟩ => ⟨S40x40x1, .f32⟩
  | .hbm, ⟨74, _⟩ => ⟨S40x40x9, .f32⟩
  | .hbm, ⟨75, _⟩ => ⟨S9x1, .f32⟩
  | .hbm, ⟨76, _⟩ => ⟨S9, .f32⟩
  | .hbm, ⟨77, _⟩ => ⟨S1x1x9, .f32⟩
  | .hbm, ⟨78, _⟩ => ⟨S40x40x9, .f32⟩
  | .hbm, ⟨79, _⟩ => ⟨S9x1, .f32⟩
  | .hbm, ⟨80, _⟩ => ⟨S9, .f32⟩
  | .hbm, ⟨81, _⟩ => ⟨S1x1x9, .f32⟩
  | .hbm, ⟨82, _⟩ => ⟨S40x40x9, .f32⟩
  | .hbm, ⟨83, _⟩ => ⟨S40x40x9x1, .f32⟩
  | .hbm, ⟨84, _⟩ => ⟨S40x40x9x1, .f32⟩
  | .hbm, ⟨85, _⟩ => ⟨S40x40x9x1, .f32⟩
  | .hbm, ⟨86, _⟩ => ⟨S40x40x9x1, .f32⟩
  | .hbm, ⟨87, _⟩ => ⟨S40x40x9x4, .f32⟩
  | .hbm, ⟨88, _⟩ => ⟨S14400x4, .f32⟩
  | .hbm, ⟨89, _⟩ => ⟨S1x14400x4, .f32⟩
  | .hbm, ⟨90, _⟩ => ⟨S4x14400x4, .f32⟩
  | _, _ => ⟨S4x256x40x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_0 : Ref sig .tc := ⟨.hbm, 56, rfl⟩
abbrev main_v44 : Ref sig .tc := ⟨.hbm, 57, rfl⟩
abbrev main_v45 : Ref sig .tc := ⟨.hbm, 58, rfl⟩
abbrev main_cst_1 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_2 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩

abbrev nD : Nat := 1
abbrev τ : Topo := Topo.v7x

variable {F : FTy → Type} [FloatOps F]
-- ==== Proof.Spec.lean ====
/- The region proposal head in plain formulas over the extended reals: a 3×3 convolution with zero padding, a rectifier and
   two 1×1 convolutions, each as a function of one output position. Both programs are read to these formulas. -/
module

public import Idealize.ShloMosaic.Lib.Pointwise
public import Idealize.ShloMosaic.Lib.ValueIdx

@[expose] public section

noncomputable section

namespace Cert.Rpn

open Idealize.ShloMosaic

/-- The feature map of image `b`, channel `c`, with a border of zeros one wide around its 40×40 positions: row `y` and
    column `x` count from the border, so that the map itself occupies rows and columns 1 to 40. -/
def padded (X : (⟨4, ![4, 256, 40, 40]⟩ : Shape).Idx → EReal) (b : Fin 4) (c : Fin 256) (y x : ℕ) : EReal :=
  if h : (1 ≤ y ∧ y - 1 < 40) ∧ 1 ≤ x ∧ x - 1 < 40 then X (ix4 b c ⟨y - 1, by omega⟩ ⟨x - 1, by omega⟩) else 0

/-- One tap of the convolution: the sum over input channels of the padded map, shifted by `(ky, kx)`, times the filter's
    entry there. -/
def tap (X : (⟨4, ![4, 256, 40, 40]⟩ : Shape).Idx → EReal) (W : (⟨4, ![256, 256, 3, 3]⟩ : Shape).Idx → EReal)
    (b : Fin 4) (o : Fin 256) (y x : ℕ) (ky kx : Fin 3) : EReal :=
  ∑ c : Fin 256, padded X b c (y + ky) (x + kx) * W (ix4 o c ky kx)

/-- The hidden layer at output channel `o` and position `(y, x)`: the nine taps summed, plus the bias, rectified. -/
def hidden (X : (⟨4, ![4, 256, 40, 40]⟩ : Shape).Idx → EReal) (W : (⟨4, ![256, 256, 3, 3]⟩ : Shape).Idx → EReal)
    (B : (⟨1, ![256]⟩ : Shape).Idx → EReal) (b : Fin 4) (o : Fin 256) (y x : ℕ) : EReal :=
  max (tap X W b o y x 0 0 + tap X W b o y x 0 1 + tap X W b o y x 0 2 + tap X W b o y x 1 0 + tap X W b o y x 1 1
    + tap X W b o y x 1 2 + tap X W b o y x 2 0 + tap X W b o y x 2 1 + tap X W b o y x 2 2 + B (ix1 o)) 0

/-- A head of `n` output channels at channel `a` and position `(y, x)`: the hidden layer's channels weighted and summed,
    plus the bias. -/
def head {n : ℕ} (X : (⟨4, ![4, 256, 40, 40]⟩ : Shape).Idx → EReal) (W : (⟨4, ![256, 256, 3, 3]⟩ : Shape).Idx → EReal)
    (B : (⟨1, ![256]⟩ : Shape).Idx → EReal) (V : (⟨4, ![n, 256, 1, 1]⟩ : Shape).Idx → EReal)
    (D : (⟨1, ![n]⟩ : Shape).Idx → EReal) (b : Fin 4) (a : Fin n) (y x : ℕ) : EReal :=
  (∑ k : Fin 256, V (ix4 a k 0 0) * hidden X W B b k y x) + D (ix1 a)

/-- The centre, in pixels, of row or column `n` of positions sixteen pixels apart. -/
def centreAt (n : ℕ) : EReal := (((n : ℝ) + 1 / 2) * 16 : ℝ)

end Cert.Rpn

end

end
-- ==== Proof.Block.lean ====
/- The kernel's body over one image, read at an index: from blocks that hold the padded image and the rearranged filters, its
   two stored blocks are the two heads of the plain formulas. -/
module

public import proofs.«01_k».proof.Proof.Spec
public import proofs.«01_k».proof.Proof.Gen.KernelIdeal.Frame

@[expose] public section

noncomputable section

namespace Cert.Rpn.Ker

open Idealize.ShloMosaic Cert.KernelIdeal Cert.KernelIdeal.Gen

variable {X : S4x256x40x40.Idx → EReal} {W : S256x256x3x3.Idx → EReal} {B : S256.Idx → EReal} {b : Fin 4}
  (x0 : Vec Ideal S1x42x42x256 .bf16) (x1 : Vec Ideal S9x256x256 .bf16) (x2 : Vec Ideal S1x256 .f32)
  (x3 : Vec Ideal S9x256 .bf16) (x4 : Vec Ideal S9x1 .f32) (x5 : Vec Ideal S36x256 .bf16) (x6 : Vec Ideal S36x1 .f32)

/-- The body's hidden layer at flattened position `p` and channel `o`, from blocks that hold image `b` padded, the filters one
    tap after another and the bias. -/
theorem hid_apply (h0 : ∀ y x c, x0 (ix4 0 y x c) = padded X b c y x)
    (h1 : ∀ (k : Fin 9) c o, x1 (ix3 k c o) = W (ix4 o c ⟨k / 3, by omega⟩ ⟨k % 3, by omega⟩))
    (h2 : ∀ o, x2 (ix2 0 o) = B (ix1 o)) (p : Fin 1600) (o : Fin 256) :
    k0_pay7 (k0_pay53 x0 x1 x2 x3 x4 x5 x6) (k0_pay54 x0 x1 x2 x3 x4 x5 x6) (k0_pay55 x0 x1 x2 x3 x4 x5 x6)
      (View.ld x1 r0_6) (View.ld x1 r0_7) (View.ld x1 r0_8) (View.ld x1 r0_9) (View.ld x2 r0_10) (ix2 p o)
      = hidden X W B b o (p / 40) (p % 40) := by
  unfold k0_pay53 k0_pay54 k0_pay55 k0_pay7 k0_pay5 k0_pay6 k0_pay4
  pointwise [h0, h1, h2]
  simp only [Nat.add_comm 1, Nat.add_comm 2]
  rfl

/-- The body's objectness head at channel `a` and flattened position `p`. -/
theorem obj_apply {V : S9x256x1x1.Idx → EReal} {D : S9.Idx → EReal} (h0 : ∀ y x c, x0 (ix4 0 y x c) = padded X b c y x)
    (h1 : ∀ (k : Fin 9) c o, x1 (ix3 k c o) = W (ix4 o c ⟨k / 3, by omega⟩ ⟨k % 3, by omega⟩))
    (h2 : ∀ o, x2 (ix2 0 o) = B (ix1 o)) (h3 : ∀ a k, x3 (ix2 a k) = V (ix4 a k 0 0)) (h4 : ∀ a, x4 (ix2 a 0) = D (ix1 a))
    (a : Fin 9) (p : Fin 1600) :
    k0_pay58 x0 x1 x2 x3 x4 x5 x6 (ix2 a p) = head X W B V D b a (p / 40) (p % 40) := by
  unfold k0_pay58 k0_pay57 k0_pay56 k0_pay8 k0_pay9 k0_pay10
  pointwise [hid_apply x0 x1 x2 x3 x4 x5 x6 h0 h1 h2, h3, h4]
  rfl

/-- One of the body's row stores: row `y` of the flattened head, reshaped to the row's place in the stored block. -/
theorem row_apply (v : FVec Ideal S9x1600 .f32) (y : ℕ) (hy : y < 40) (hs : S9x1600.Slices ![0, 40 * y] S9x40) (j : S1x9x1x40.Idx) :
    shapeCast S1x9x1x40 (extractStridedSlice S9x40 ![0, 40 * y] v hs) shapeCasts_S9x40_S1x9x1x40 j
      = v (ix2 (j 1) ⟨40 * y + j 3, by have := (j 3).isLt; simp at this; omega⟩) := by
  pointwise

/-- The flattened head as one image: row `y`, column `x` reads position `40 y + x`. -/
def image (v : FVec Ideal S9x1600 .f32) : S1x9x40x40.Idx → EReal := fun i =>
  v (ix2 (i 1) ⟨40 * (i 2).val + (i 3).val, by
    have h2 : (i 2).val < 40 := (i 2).isLt
    have h3 : (i 3).val < 40 := (i 3).isLt
    omega⟩)

/-- A row store's rectangle lies inside the stored block. -/
theorem row_inb (y : ℕ) (hy : y < 40) (d : Fin 4) : (![0, 0, y, 0] : Fin 4 → ℕ) d + S1x9x1x40.size d ≤ S1x9x40x40.size d := by
  fin_cases d <;> simp <;> omega

/-- A row's positions lie inside the flattened head. -/
theorem row_slices (y : ℕ) (hy : y < 40) : S9x1600.Slices ![0, 40 * y] S9x40 :=
  ⟨rfl, fun d => by fin_cases d <;> simp <;> omega⟩

/-- Each row store leaves the image's row where it stores. -/
theorem row_image (v : FVec Ideal S9x1600 .f32) (y : ℕ) (hy : y < 40) (w : S1x9x1x40.Idx → EReal)
    (hw : w = shapeCast S1x9x1x40 (extractStridedSlice S9x40 ![0, 40 * y] v (row_slices y hy)) shapeCasts_S9x40_S1x9x1x40)
    (j : S1x9x1x40.Idx) :
    w j = image v ((Rect.unit (s := S1x9x40x40) ![0, 0, y, 0] S1x9x1x40.size (row_inb y hy)).emb j) := by
  rw [hw, row_apply v y hy (row_slices y hy) j]
  unfold image
  have h2 : (j 2).val = 0 := by have : (j 2).val < 1 := (j 2).isLt; omega
  refine congrArg v (congrArg₂ ix2 (Fin.ext ?_) (Fin.ext ?_))
  · simp
  · simp [h2]

/-- What the body leaves in the objectness block. -/
theorem out7_apply {V : S9x256x1x1.Idx → EReal} {D : S9.Idx → EReal} (h0 : ∀ y x c, x0 (ix4 0 y x c) = padded X b c y x)
    (h1 : ∀ (k : Fin 9) c o, x1 (ix3 k c o) = W (ix4 o c ⟨k / 3, by omega⟩ ⟨k % 3, by omega⟩))
    (h2 : ∀ o, x2 (ix2 0 o) = B (ix1 o)) (h3 : ∀ a k, x3 (ix2 a k) = V (ix4 a k 0 0)) (h4 : ∀ a, x4 (ix2 a 0) = D (ix1 a))
    (a : Fin 9) (y x : Fin 40) :
    out0_7 x0 x1 x2 x3 x4 x5 x6 (ix4 0 a y x) = head X W B V D b a y x := by
  unfold out0_7
  refine (View.canon_apply_of_pieces (image (k0_pay58 x0 x1 x2 x3 x4 x5 x6)) _ ?_ _ (cover0_7 ..)).trans ?_
  · dsimp only
    repeat' refine List.forall_mem_cons.2 ⟨row_image _ _ (by decide) _ rfl, ?_⟩
    exact fun _ h => absurd h List.not_mem_nil
  · refine (obj_apply x0 x1 x2 x3 x4 x5 x6 h0 h1 h2 h3 h4 _ _).trans ?_
    have e1 : (40 * y.val + x.val) / 40 = y := by omega
    have e2 : (40 * y.val + x.val) % 40 = x := by omega
    show head X W B V D b a ((40 * y.val + x.val) / 40) ((40 * y.val + x.val) % 40) = _
    rw [e1, e2]

/-- What the body leaves in the box block. -/
theorem out8_apply {V : S36x256x1x1.Idx → EReal} {D : S36.Idx → EReal} (h0 : ∀ y x c, x0 (ix4 0 y x c) = padded X b c y x)
    (h1 : ∀ (k : Fin 9) c o, x1 (ix3 k c o) = W (ix4 o c ⟨k / 3, by omega⟩ ⟨k % 3, by omega⟩))
    (h2 : ∀ o, x2 (ix2 0 o) = B (ix1 o)) (h5 : ∀ a k, x5 (ix2 a k) = V (ix4 a k 0 0)) (h6 : ∀ a, x6 (ix2 a 0) = D (ix1 a))
    (a : Fin 36) (p : Fin 1600) :
    out0_8 x0 x1 x2 x3 x4 x5 x6 (ix3 0 a p) = head X W B V D b a (p / 40) (p % 40) := by
  unfold out0_8
  rw [View.canon_unit_zero (by funext d; fin_cases d <;> rfl)]
  unfold k0_pay11
  pointwise [hid_apply x0 x1 x2 x3 x4 x5 x6 h0 h1 h2, h5, h6]
  rfl

end Cert.Rpn.Ker

end

end
-- ==== Proof.Arrays.lean ====
/-
  The kernel's arrays: what its pipeline reads, as functions of the arguments; what its two result arrays end holding;
  and what the host operations after it leave in the three results.
-/
module

public import proofs.«01_k».proof.Proof.Block
public import Idealize.ShloMosaic.Lib.Pipeline.Value
public import Idealize.ShloMosaic.Lib.Affine

@[expose] public section

noncomputable section

namespace Cert.Rpn.Ker

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## The arrays the pipeline finds -/

section Found

variable (c : Dev nD)

/-- The image: channels last, one zero pixel around it. -/
theorem V_v2 : V m c main_v2 = truncf (F := Ideal) .bf16
    (pad S4x42x42x256 ![0, 1, 1, 0] ![0, 1, 1, 0] ![0, 0, 0, 0]
      (transpose S4x40x40x256 [0, 2, 3, 1] (m ((c : Thread nD τ).loc main_arg0)) transposes_S4x256x40x40_S4x40x40x256_0_2_3_1)
      (sitofp (F := Ideal) .f32 (constantI S_ 32 0#32)) pads_S4x40x40x256_S4x42x42x256_000_110_110_000 h_S_) bitsLt_bf16_f32 := by
  show StableHlo.after _ _ _ = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The filters of the 3×3 convolution: tap, input channel, output channel. -/
theorem V_v5 : V m c main_v5 = truncf (F := Ideal) .bf16 (shapeCast S9x256x256
      (transpose S3x3x256x256 [2, 3, 1, 0] (m ((c : Thread nD τ).loc main_arg1)) transposes_S256x256x3x3_S3x3x256x256_2_3_1_0)
      shapeCasts_S3x3x256x256_S9x256x256) bitsLt_bf16_f32 := by
  show StableHlo.after _ _ _ = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- Its bias, as a row. -/
theorem V_v10 : V m c main_v10 = shapeCast S1x256 (m ((c : Thread nD τ).loc main_arg2)) shapeCasts_S256_S1x256 := by
  show StableHlo.after _ _ _ = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The objectness filters. -/
theorem V_v7 : V m c main_v7 = truncf (F := Ideal) .bf16 (shapeCast S9x256 (m ((c : Thread nD τ).loc main_arg3)) shapeCasts_S9x256x1x1_S9x256) bitsLt_bf16_f32 := by
  show StableHlo.after _ _ _ = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The objectness bias, as a column. -/
theorem V_v11 : V m c main_v11 = shapeCast S9x1 (m ((c : Thread nD τ).loc main_arg4)) shapeCasts_S9_S9x1 := by
  show StableHlo.after _ _ _ = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The box filters. -/
theorem V_v9 : V m c main_v9 = truncf (F := Ideal) .bf16 (shapeCast S36x256 (m ((c : Thread nD τ).loc main_arg5)) shapeCasts_S36x256x1x1_S36x256) bitsLt_bf16_f32 := by
  show StableHlo.after _ _ _ = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The box bias, as a column. -/
theorem V_v12 : V m c main_v12 = shapeCast S36x1 (m ((c : Thread nD τ).loc main_arg6)) shapeCasts_S36_S36x1 := by
  show StableHlo.after _ _ _ = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-! ## A window's block at a grid point -/

/-- Grid point `t` is image `t`. -/
def img (t : Fin cfg0.N) : Fin 4 := ⟨t.val, lt_of_lt_of_eq t.isLt N_0⟩

/-- The windows of the image and of the two results move with the grid point; the others never move. -/
theorem idx_facts : ∀ t : Fin cfg0.N,
    (win0_0.index t = ![t.val, 0, 0, 0] ∧ win0_1.index t = ![0, 0, 0] ∧ win0_2.index t = ![0, 0] ∧ win0_3.index t = ![0, 0])
    ∧ (win0_4.index t = ![0, 0] ∧ win0_5.index t = ![0, 0] ∧ win0_6.index t = ![0, 0])
    ∧ win0_7.index t = ![t.val, 0, 0, 0] ∧ win0_8.index t = ![t.val, 0, 0] :=
  (by decide +kernel : ∀ t : Fin grid0.N, _)

variable (t : Fin cfg0.N)

/-- The image's block at point `t` is image `t`. -/
theorem iblk0_apply (y x : Fin 42) (k : Fin 256) :
    iblk m c 0 t (ix4 0 y x k) = V m c main_v2 (ix4 (img t) y x k) := by
  refine congrArg (V m c main_v2) (funext fun a => Fin.ext ((win0_0.rect_emb_val t _ a).trans ?_))
  rw [(idx_facts t).1.1]
  fin_cases a <;> simp [img] <;> rfl

/-- Window 1's block is its whole array. -/
theorem iblk1_apply (k : Fin 9) (i o : Fin 256) : iblk m c 1 t (ix3 k i o) = V m c main_v5 (ix3 k i o) := by
  refine congrArg (V m c main_v5) (funext fun a => Fin.ext ((win0_1.rect_emb_val t _ a).trans ?_))
  rw [(idx_facts t).1.2.1]
  fin_cases a <;> simp <;> rfl

/-- Window 2's block is its whole array. -/
theorem iblk2_apply (o : Fin 256) : iblk m c 2 t (ix2 0 o) = V m c main_v10 (ix2 0 o) := by
  refine congrArg (V m c main_v10) (funext fun a => Fin.ext ((win0_2.rect_emb_val t _ a).trans ?_))
  rw [(idx_facts t).1.2.2.1]
  fin_cases a <;> simp <;> rfl

/-- Window 3's block is its whole array. -/
theorem iblk3_apply (a : Fin 9) (k : Fin 256) : iblk m c 3 t (ix2 a k) = V m c main_v7 (ix2 a k) := by
  refine congrArg (V m c main_v7) (funext fun j => Fin.ext ((win0_3.rect_emb_val t _ j).trans ?_))
  rw [(idx_facts t).1.2.2.2]
  fin_cases j <;> simp <;> rfl

/-- Window 4's block is its whole array. -/
theorem iblk4_apply (a : Fin 9) : iblk m c 4 t (ix2 a 0) = V m c main_v11 (ix2 a 0) := by
  refine congrArg (V m c main_v11) (funext fun j => Fin.ext ((win0_4.rect_emb_val t _ j).trans ?_))
  rw [(idx_facts t).2.1.1]
  fin_cases j <;> simp <;> rfl

/-- Window 5's block is its whole array. -/
theorem iblk5_apply (a : Fin 36) (k : Fin 256) : iblk m c 5 t (ix2 a k) = V m c main_v9 (ix2 a k) := by
  refine congrArg (V m c main_v9) (funext fun j => Fin.ext ((win0_5.rect_emb_val t _ j).trans ?_))
  rw [(idx_facts t).2.1.2.1]
  fin_cases j <;> simp <;> rfl

/-- Window 6's block is its whole array. -/
theorem iblk6_apply (a : Fin 36) : iblk m c 6 t (ix2 a 0) = V m c main_v12 (ix2 a 0) := by
  refine congrArg (V m c main_v12) (funext fun j => Fin.ext ((win0_6.rect_emb_val t _ j).trans ?_))
  rw [(idx_facts t).2.1.2.2]
  fin_cases j <;> simp <;> rfl

end Found

/-! ## The blocks as functions of the arguments -/

section Blocks

variable (c : Dev nD) (t : Fin cfg0.N)

/-- Argument 0, the feature maps. -/
abbrev X : S4x256x40x40.Idx → EReal := m ((c : Thread nD τ).loc main_arg0)
/-- Argument 1, the 3×3 filters. -/
abbrev W : S256x256x3x3.Idx → EReal := m ((c : Thread nD τ).loc main_arg1)
/-- Argument 2, their bias. -/
abbrev B : S256.Idx → EReal := m ((c : Thread nD τ).loc main_arg2)
/-- Argument 3, the objectness filters. -/
abbrev Vo : S9x256x1x1.Idx → EReal := m ((c : Thread nD τ).loc main_arg3)
/-- Argument 4, their bias. -/
abbrev Do : S9.Idx → EReal := m ((c : Thread nD τ).loc main_arg4)
/-- Argument 5, the box filters. -/
abbrev Vb : S36x256x1x1.Idx → EReal := m ((c : Thread nD τ).loc main_arg5)
/-- Argument 6, their bias. -/
abbrev Db : S36.Idx → EReal := m ((c : Thread nD τ).loc main_arg6)

/-- Point `t` reads image `t` of the padded map. -/
theorem read0 (y x : Fin 42) (k : Fin 256) : iblk m c 0 t (ix4 0 y x k) = padded (X m c) (img t) k y x := by
  rw [iblk0_apply, V_v2]
  pointwise
  have h0 : (FloatOps.sitofp (F := Ideal) FTy.f32 0#32 : EReal) = 0 := by
    simp [FloatOps.sitofp]
  rw [h0]
  rfl

/-- It reads the 3×3 filters tap by tap. -/
theorem read1 (k : Fin 9) (i o : Fin 256) :
    iblk m c 1 t (ix3 k i o) = W m c (ix4 o i ⟨k / 3, by omega⟩ ⟨k % 3, by omega⟩) := by
  rw [iblk1_apply, V_v5]
  pointwise

/-- It reads their bias. -/
theorem read2 (o : Fin 256) : iblk m c 2 t (ix2 0 o) = B m c (ix1 o) := by
  rw [iblk2_apply, V_v10]
  pointwise

/-- It reads the objectness filters. -/
theorem read3 (a : Fin 9) (k : Fin 256) : iblk m c 3 t (ix2 a k) = Vo m c (ix4 a k 0 0) := by
  rw [iblk3_apply, V_v7]
  pointwise

/-- It reads their bias. -/
theorem read4 (a : Fin 9) : iblk m c 4 t (ix2 a 0) = Do m c (ix1 a) := by
  rw [iblk4_apply, V_v11]
  pointwise

/-- It reads the box filters. -/
theorem read5 (a : Fin 36) (k : Fin 256) : iblk m c 5 t (ix2 a k) = Vb m c (ix4 a k 0 0) := by
  rw [iblk5_apply, V_v9]
  pointwise

/-- It reads their bias. -/
theorem read6 (a : Fin 36) : iblk m c 6 t (ix2 a 0) = Db m c (ix1 a) := by
  rw [iblk6_apply, V_v12]
  pointwise

end Blocks

/-! ## The two arrays the pipeline writes -/

section Written

variable (c : Dev nD)

/-- The objectness scores: image, anchor, row, column. -/
def objArr : S4x9x40x40.Idx → EReal := fun i =>
  head (X m c) (W m c) (B m c) (Vo m c) (Do m c) (i 0) (i 1) (i 2).val (i 3).val

/-- The box regressions: image, channel, position. -/
def boxArr : S4x36x1600.Idx → EReal := fun i =>
  head (X m c) (W m c) (B m c) (Vb m c) (Db m c) (i 0) (i 1) ((i 2).val / 40) ((i 2).val % 40)

/-- What point `t` writes back to the objectness array is block `t` of `objArr`. -/
theorem flushed7 (t : Fin cfg0.N) :
    (dats m 0 c).flushed 7 t = (win0_7.blk t).view.read (Elt Ideal) (objArr m c) := by
  show (cfg0.win 7).cut (grid0.coords t) ((dats m 0 c).after 7 t) = _
  rw [after0_7]
  have e : ∀ j : S1x9x40x40.Idx, out0_7 (iblk m c 0 t) (iblk m c 1 t) (iblk m c 2 t) (iblk m c 3 t) (iblk m c 4 t)
      (iblk m c 5 t) (iblk m c 6 t) j = (win0_7.blk t).view.read (Elt Ideal) (objArr m c) j := by
    intro j
    obtain ⟨z, a, y, x, rfl⟩ : ∃ z a y x, j = ix4 z a y x := ⟨_, _, _, _, eq_ix4 j⟩
    obtain rfl : z = 0 := Subsingleton.elim _ _
    refine (out7_apply _ _ _ _ _ _ _ (read0 m c t) (read1 m c t) (read2 m c t) (read3 m c t) (read4 m c t) a y x).trans ?_
    refine (congrArg (objArr m c) (?_ : (ix4 (img t) a y x : S4x9x40x40.Idx) = (win0_7.rect t).emb (ix4 0 a y x)))
    refine funext fun d => Fin.ext (Eq.trans ?_ (win0_7.rect_emb_val t _ d).symm)
    rw [(idx_facts t).2.2.1]
    fin_cases d <;> simp [img] <;> rfl
  exact funext e

/-- What point `t` writes back to the box array is block `t` of `boxArr`. -/
theorem flushed8 (t : Fin cfg0.N) :
    (dats m 0 c).flushed 8 t = (win0_8.blk t).view.read (Elt Ideal) (boxArr m c) := by
  show (cfg0.win 8).cut (grid0.coords t) ((dats m 0 c).after 8 t) = _
  rw [after0_8]
  have e : ∀ j : S1x36x1600.Idx, out0_8 (iblk m c 0 t) (iblk m c 1 t) (iblk m c 2 t) (iblk m c 3 t) (iblk m c 4 t)
      (iblk m c 5 t) (iblk m c 6 t) j = (win0_8.blk t).view.read (Elt Ideal) (boxArr m c) j := by
    intro j
    obtain ⟨z, a, p, rfl⟩ : ∃ z a p, j = ix3 z a p := ⟨_, _, _, eq_ix3 j⟩
    obtain rfl : z = 0 := Subsingleton.elim _ _
    refine (out8_apply _ _ _ _ _ _ _ (read0 m c t) (read1 m c t) (read2 m c t) (read5 m c t) (read6 m c t) a p).trans ?_
    refine (congrArg (boxArr m c) (?_ : (ix3 (img t) a p : S4x36x1600.Idx) = (win0_8.rect t).emb (ix3 0 a p)))
    refine funext fun d => Fin.ext (Eq.trans ?_ (win0_8.rect_emb_val t _ d).symm)
    rw [(idx_facts t).2.2.2]
    fin_cases d <;> simp [img] <;> rfl
  exact funext e

/-- An index of the objectness array lies in the block of its image. -/
theorem cover7 (i : S4x9x40x40.Idx) : ∃ t : Fin cfg0.N, (cfg0.win 7).flush t = true ∧ i ∈ ((cfg0.win 7).blk t).view.set := by
  obtain ⟨b, a, y, x, rfl⟩ : ∃ b a y x, i = ix4 b a y x := ⟨_, _, _, _, eq_ix4 i⟩
  let t : Fin cfg0.N := ⟨b.val, lt_of_lt_of_eq b.isLt N_0.symm⟩
  have e : (ix4 b a y x : S4x9x40x40.Idx) = (win0_7.rect t).emb (ix4 0 a y x) := by
    refine funext fun d => Fin.ext (Eq.trans ?_ (win0_7.rect_emb_val t _ d).symm)
    rw [(idx_facts t).2.2.1]
    fin_cases d <;> simp <;> rfl
  refine ⟨t, flush0_7 t, ?_⟩
  rw [e]
  exact View.emb_mem_set (v := ((cfg0.win 7).blk t).view) _

/-- An index of the box array lies in the block of its image. -/
theorem cover8 (i : S4x36x1600.Idx) : ∃ t : Fin cfg0.N, (cfg0.win 8).flush t = true ∧ i ∈ ((cfg0.win 8).blk t).view.set := by
  obtain ⟨b, a, p, rfl⟩ : ∃ b a p, i = ix3 b a p := ⟨_, _, _, eq_ix3 i⟩
  let t : Fin cfg0.N := ⟨b.val, lt_of_lt_of_eq b.isLt N_0.symm⟩
  have e : (ix3 b a p : S4x36x1600.Idx) = (win0_8.rect t).emb (ix3 0 a p) := by
    refine funext fun d => Fin.ext (Eq.trans ?_ (win0_8.rect_emb_val t _ d).symm)
    rw [(idx_facts t).2.2.2]
    fin_cases d <;> simp <;> rfl
  refine ⟨t, flush0_8 t, ?_⟩
  rw [e]
  exact View.emb_mem_set (v := ((cfg0.win 8).blk t).view) _

/-- The objectness array ends holding the scores. -/
theorem final7 : (dats m 0 c).arrAt 7 cfg0.N = objArr m c :=
  (dats m 0 c).arrAt_eq_of_cover 7 (objArr m c) (fun t _ => flushed7 m c t) cover7

/-- The box array ends holding the regressions. -/
theorem final8 : (dats m 0 c).arrAt 8 cfg0.N = boxArr m c :=
  (dats m 0 c).arrAt_eq_of_cover 8 (boxArr m c) (fun t _ => flushed8 m c t) cover8

end Written

/-! ## The three results -/

section Results

variable (c : Dev nD)

/-- Result 1: the scores, flattened. -/
def res1 : S4x14400x1.Idx → EReal := shapeCast S4x14400x1 (objArr m c) shapeCasts_S4x9x40x40_S4x14400x1

/-- Result 2: the regressions, reordered so that the four numbers of one box are adjacent. -/
def res2 : S4x14400x4.Idx → EReal := extf (F := Ideal) .f32 (shapeCast S4x14400x4 (transpose S4x1600x9x4 [0, 3, 1, 2]
  (shapeCast S4x9x4x1600 (boxArr m c) shapeCasts_S4x36x1600_S4x9x4x1600) transposes_S4x9x4x1600_S4x1600x9x4_0_3_1_2)
  shapeCasts_S4x1600x9x4_S4x14400x4) bitsLt_bf16_f32

/-- Result 3: the table of anchors, one copy per image. -/
def res3 : S4x14400x4.Idx → EReal := broadcastInDim S4x14400x4 ![0, 1, 2] bcast_S1x14400x4_S4x14400x4_0_1_2
  (broadcastInDim S1x14400x4 ![1, 2] bcast_S14400x4_S1x14400x4_1_2
    (fun i => FloatOps.ofBits (F := Ideal) .f32 (lit0 (S14400x4.rowMajor i))))

/-- The windows stand on distinct arrays. -/
theorem arr_inj : Function.Injective (Pipeline.arrRef spec0) := by decide

/-- After the region the objectness array holds the scores, -/
theorem after7 : Pipeline.withArrays (cfgs 0).spec c (V0 m c) (fun w => (dats m 0 c).arrAt w (cfgs 0).N)
    (Proc.devRef .tc main_v13_0) = objArr m c :=
  (Pipeline.withArrays_arr spec0 arr_inj c (V0 m c) (fun w => (dats m 0 c).arrAt w cfg0.N) 7).trans (final7 m c)

/-- the box array the regressions, -/
theorem after8 : Pipeline.withArrays (cfgs 0).spec c (V0 m c) (fun w => (dats m 0 c).arrAt w (cfgs 0).N)
    (Proc.devRef .tc main_v13_1) = boxArr m c :=
  (Pipeline.withArrays_arr spec0 arr_inj c (V0 m c) (fun w => (dats m 0 c).arrAt w cfg0.N) 8).trans (final8 m c)

/-- and the table of anchors is what it was before. -/
theorem afterTable : Pipeline.withArrays (cfgs 0).spec c (V0 m c) (fun w => (dats m 0 c).arrAt w (cfgs 0).N)
    (Proc.devRef .tc main_cst) = (fun i => FloatOps.ofBits (F := Ideal) .f32 (lit0 (S14400x4.rowMajor i)) : S14400x4.Idx → EReal) := by
  refine (Pipeline.withArrays_of_ne _ c (V0 m c) _ main_cst (by exact (by decide : ∀ w, Pipeline.arrRef spec0 w ≠ main_cst))).trans ?_
  show StableHlo.after _ _ _ = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The host operations after the region leave the scores in result 1, -/
theorem tail1 : Pipeline.afterTail₀ cfgs (dats m) 0 (V0 m) [hostOps1] c main_v14 = res1 m c := by
  unfold Pipeline.afterTail₀ res1
  simp only [hostOps1, List.flatten_cons, List.flatten_nil, List.append_nil, List.cons_append, List.nil_append]
  after_results_simp
  rw [← after7]
  rfl

/-- the regressions in result 2 -/
theorem tail2 : Pipeline.afterTail₀ cfgs (dats m) 0 (V0 m) [hostOps1] c main_v18 = res2 m c := by
  unfold Pipeline.afterTail₀ res2
  simp only [hostOps1, List.flatten_cons, List.flatten_nil, List.append_nil, List.cons_append, List.nil_append]
  after_results_simp
  rw [← after8]
  rfl

/-- and the anchors in result 3. -/
theorem tail3 : Pipeline.afterTail₀ cfgs (dats m) 0 (V0 m) [hostOps1] c main_v20 = res3 := by
  unfold Pipeline.afterTail₀ res3
  simp only [hostOps1, List.flatten_cons, List.flatten_nil, List.append_nil, List.cons_append, List.nil_append]
  after_results_simp
  rw [← afterTable m c]

/-- A score read at an index: box `q` of an image is anchor `q / 1600` at position `q % 1600`. -/
theorem res1_apply (b : Fin 4) (q : Fin 14400) : res1 m c (ix3 b q 0)
    = head (X m c) (W m c) (B m c) (Vo m c) (Do m c) b ⟨q / 1600, by omega⟩ (q / 40 % 40) (q % 40) := by
  unfold res1
  pointwise
  rfl

/-- A regression read at an index: number `f` of box `q` of an image is channel `4 (q % 9) + f` at position `q / 9`. -/
theorem res2_apply (b : Fin 4) (q : Fin 14400) (f : Fin 4) : res2 m c (ix3 b q f)
    = head (X m c) (W m c) (B m c) (Vb m c) (Db m c) b ⟨q % 9 * 4 + f, by omega⟩ (q / 360) (q / 9 % 40) := by
  unfold res2
  pointwise
  show head (X m c) (W m c) (B m c) (Vb m c) (Db m c) b ⟨q % 9 * 4 + f, by omega⟩ (q.val / 9 / 40) (q.val / 9 % 40) = _
  rw [Nat.div_div_eq_div_mul]

/-- An anchor read at an index. -/
theorem res3_apply (b : Fin 4) (q : Fin 14400) (f : Fin 4) : res3 (ix3 b q f)
    = FloatOps.ofBits (F := Ideal) .f32 (lit0 ⟨q * 4 + f, by omega⟩) := by
  unfold res3
  pointwise
  congr 2
  apply Fin.ext
  exact Shape.rowMajor_val_two _

end Results

end Cert.Rpn.Ker

end
-- ==== Proof.Anchors.lean ====
/-
  The table of anchors: the centres of the 40×40 positions, and the nine widths and heights, repeated at each position.
-/
module

public import proofs.«01_k».proof.Proof.Gen.KernelIdeal.Frame
public import proofs.«01_k».proof.Proof.Gen.ReferenceIdeal.Run

@[expose] public section

noncomputable section

namespace Cert.Rpn

open Idealize.ShloMosaic

/-- The f32 word of `16 n + 8`, the centre of row or column `n` of positions sixteen pixels apart. -/
def centre (n : ℕ) : BitVec 32 :=
  BitVec.ofNat 32 ((127 + Nat.log2 (16 * n + 8)) * 2 ^ 23 + (16 * n + 8 - 2 ^ Nat.log2 (16 * n + 8)) * 2 ^ (23 - Nat.log2 (16 * n + 8)))

set_option maxHeartbeats 8000000 in
/-- The kernel's table, entry by entry: at row `y`, column `x` and anchor `a` it holds the column's centre, the row's
    centre and the reference's width and height of that anchor. -/
theorem table : ∀ y x : Fin 40, ∀ a : Fin 9,
    Cert.KernelIdeal.lit0 ⟨(y.val * 360 + x.val * 9 + a) * 4, by omega⟩ = centre x
    ∧ Cert.KernelIdeal.lit0 ⟨(y.val * 360 + x.val * 9 + a) * 4 + 1, by omega⟩ = centre y
    ∧ Cert.KernelIdeal.lit0 ⟨(y.val * 360 + x.val * 9 + a) * 4 + 2, by omega⟩ = Cert.ReferenceIdeal.lit0 ⟨a.val * 2, by omega⟩
    ∧ Cert.KernelIdeal.lit0 ⟨(y.val * 360 + x.val * 9 + a) * 4 + 3, by omega⟩ = Cert.ReferenceIdeal.lit0 ⟨a.val * 2 + 1, by omega⟩ := by
  intro y
  fin_cases y <;> decide +kernel

end Cert.Rpn

end
-- ==== Proof.RefValue.lean ====
/- The reference's results read at an index. -/
module

public import proofs.«01_k».proof.Proof.Spec
public import proofs.«01_k».proof.Proof.Gen.ReferenceIdeal.Run
public import Idealize.ShloMosaic.Lib.TwoAxisContraction

@[expose] public section

noncomputable section

namespace Cert.Rpn.Ref

open Idealize.ShloMosaic Idealize.ShloMosaic.TcCoe Idealize.SL.Sem Cert.ReferenceIdeal Cert.ReferenceIdeal.Gen

/-- The reference's padded feature map. -/
def xp (X : S4x256x40x40.Idx → EReal) : S4x256x42x42.Idx → EReal :=
  pad S4x256x42x42 ![0, 0, 1, 1] ![0, 0, 1, 1] ![0, 0, 0, 0] X (sitofp (F := Ideal) .f32 (constantI S_ 32 0#32))
    pads_S4x256x40x40_S4x256x42x42_000_000_110_110 h_S_

/-- The padded map read at an index. -/
theorem xp_apply (X : S4x256x40x40.Idx → EReal) (b : Fin 4) (c : Fin 256) (y x : Fin 42) :
    xp X (ix4 b c y x) = padded X b c y x := by
  unfold xp
  pointwise
  have h0 : (FloatOps.sitofp (F := Ideal) FTy.f32 0#32 : EReal) = 0 := by
    simp [FloatOps.sitofp]
  rw [h0]
  rfl

/-- The nine shifted copies of the padded map, stacked along a new axis. -/
def patches (X : S4x256x40x40.Idx → EReal) : S4x256x9x40x40.Idx → EReal :=
  Value.fn_main_v19 (F := Ideal)
    (broadcastInDim S4x256x1x40x40 ![0, 1, 3, 4] bcast_S4x256x40x40_S4x256x1x40x40_0_1_3_4 (extractStridedSlice S4x256x40x40 ![0, 0, 0, 0] (xp X) slices_S4x256x42x42_S4x256x40x40_0_0_0_0))
    (broadcastInDim S4x256x1x40x40 ![0, 1, 3, 4] bcast_S4x256x40x40_S4x256x1x40x40_0_1_3_4 (extractStridedSlice S4x256x40x40 ![0, 0, 0, 1] (xp X) slices_S4x256x42x42_S4x256x40x40_0_0_0_1))
    (broadcastInDim S4x256x1x40x40 ![0, 1, 3, 4] bcast_S4x256x40x40_S4x256x1x40x40_0_1_3_4 (extractStridedSlice S4x256x40x40 ![0, 0, 0, 2] (xp X) slices_S4x256x42x42_S4x256x40x40_0_0_0_2))
    (broadcastInDim S4x256x1x40x40 ![0, 1, 3, 4] bcast_S4x256x40x40_S4x256x1x40x40_0_1_3_4 (extractStridedSlice S4x256x40x40 ![0, 0, 1, 0] (xp X) slices_S4x256x42x42_S4x256x40x40_0_0_1_0))
    (broadcastInDim S4x256x1x40x40 ![0, 1, 3, 4] bcast_S4x256x40x40_S4x256x1x40x40_0_1_3_4 (extractStridedSlice S4x256x40x40 ![0, 0, 1, 1] (xp X) slices_S4x256x42x42_S4x256x40x40_0_0_1_1))
    (broadcastInDim S4x256x1x40x40 ![0, 1, 3, 4] bcast_S4x256x40x40_S4x256x1x40x40_0_1_3_4 (extractStridedSlice S4x256x40x40 ![0, 0, 1, 2] (xp X) slices_S4x256x42x42_S4x256x40x40_0_0_1_2))
    (broadcastInDim S4x256x1x40x40 ![0, 1, 3, 4] bcast_S4x256x40x40_S4x256x1x40x40_0_1_3_4 (extractStridedSlice S4x256x40x40 ![0, 0, 2, 0] (xp X) slices_S4x256x42x42_S4x256x40x40_0_0_2_0))
    (broadcastInDim S4x256x1x40x40 ![0, 1, 3, 4] bcast_S4x256x40x40_S4x256x1x40x40_0_1_3_4 (extractStridedSlice S4x256x40x40 ![0, 0, 2, 1] (xp X) slices_S4x256x42x42_S4x256x40x40_0_0_2_1))
    (broadcastInDim S4x256x1x40x40 ![0, 1, 3, 4] bcast_S4x256x40x40_S4x256x1x40x40_0_1_3_4 (extractStridedSlice S4x256x40x40 ![0, 0, 2, 2] (xp X) slices_S4x256x42x42_S4x256x40x40_0_0_2_2))

/-- The stack read at an index: member `k` is the map shifted by `(k / 3, k % 3)`. -/
theorem patches_apply (X : S4x256x40x40.Idx → EReal) (b : Fin 4) (c : Fin 256) (k : Fin 9) (y x : Fin 40) :
    patches X (ix5 b c k y x) = padded X b c (y + k / 3) (x + k % 3) := by
  unfold patches Value.fn_main_v19
  fin_cases k <;> pointwise [xp_apply] <;> simp only [Nat.add_comm]

/-- The reference's hidden layer. -/
def hid (X : S4x256x40x40.Idx → EReal) (W : S256x256x3x3.Idx → EReal) (B : S256.Idx → EReal) : S4x256x40x40.Idx → EReal :=
  maximumf (F := Ideal) (φ := .f32) (addf (F := Ideal) (φ := .f32) (transpose S4x256x40x40 [0, 3, 1, 2]
      (Host.dotGeneral (F := Ideal) (φ₁ := .f32) (φ₂ := .f32) dot_S4x256x9x40x40_S256x256x9_S4x40x40x256_12_12_034_0_n_n none (patches X)
        (shapeCast _ W shapeCasts_S256x256x3x3_S256x256x9)) transposes_S4x40x40x256_S4x256x40x40_0_3_1_2)
      (broadcastInDim S4x256x40x40 ![0, 1, 2, 3] bcast_S1x256x1x1_S4x256x40x40_0_1_2_3
        (broadcastInDim S1x256x1x1 ![1] bcast_S256_S1x256x1x1_1 B)))
    (broadcastInDim S4x256x40x40 ![] bcast_S_S4x256x40x40 (constant (F := Ideal) S_ .f32 0x00000000#32))

/-- The convolution's contraction read at an index: a sum over input channels of the sum over the nine taps. -/
theorem conv_apply (P : S4x256x9x40x40.Idx → EReal) (W : S256x256x9.Idx → EReal) (b : Fin 4) (y x : Fin 40) (o : Fin 256) :
    Host.dotGeneral (F := Ideal) (φ₁ := .f32) (φ₂ := .f32) dot_S4x256x9x40x40_S256x256x9_S4x40x40x256_12_12_034_0_n_n none P W (ix4 b y x o)
      = ∑ c : Fin 256, ∑ k : Fin 9, P (ix5 b c k y x) * W (ix3 o c k) := by
  pointwise

/-- The reference's hidden layer read at an index. -/
theorem hid_apply (X : S4x256x40x40.Idx → EReal) (W : S256x256x3x3.Idx → EReal) (B : S256.Idx → EReal)
    (b : Fin 4) (o : Fin 256) (y x : Fin 40) : hid X W B (ix4 b o y x) = hidden X W B b o y x := by
  unfold hid
  pointwise [conv_apply, patches_apply]
  rw [Finset.sum_comm, Fin.sum_univ_castSucc, Fin.sum_univ_eight]
  rfl

/-- The reference's objectness scores read at an index. -/
theorem obj_apply (X : S4x256x40x40.Idx → EReal) (W : S256x256x3x3.Idx → EReal) (B : S256.Idx → EReal)
    (V : S9x256x1x1.Idx → EReal) (D : S9.Idx → EReal) (b : Fin 4) (q : Fin 14400) :
    (shapeCast S4x14400x1 (addf (F := Ideal) (φ := .f32) (transpose S4x9x40x40 [0, 3, 1, 2]
        (Host.dotGeneral (F := Ideal) (φ₁ := .f32) (φ₂ := .f32) dot_S4x256x40x40_S9x256_S4x40x40x9_1_1_023_0_n_n none (hid X W B)
          (shapeCast _ V shapeCasts_S9x256x1x1_S9x256)) transposes_S4x40x40x9_S4x9x40x40_0_3_1_2)
        (broadcastInDim S4x9x40x40 ![0, 1, 2, 3] bcast_S1x9x1x1_S4x9x40x40_0_1_2_3
          (broadcastInDim S1x9x1x1 ![1] bcast_S9_S1x9x1x1_1 D))) shapeCasts_S4x9x40x40_S4x14400x1) (ix3 b q 0)
      = head X W B V D b ⟨q / 1600, by omega⟩ (q / 40 % 40) (q % 40) := by
  pointwise [hid_apply]
  simp only [mul_comm (hidden _ _ _ _ _ _ _)]
  rfl

/-- The reference's box deltas read at an index. -/
theorem box_apply (X : S4x256x40x40.Idx → EReal) (W : S256x256x3x3.Idx → EReal) (B : S256.Idx → EReal)
    (V : S36x256x1x1.Idx → EReal) (D : S36.Idx → EReal) (b : Fin 4) (q : Fin 14400)
    (f : Fin 4) :
    (shapeCast S4x14400x4 (transpose S4x40x40x9x4 [0, 3, 4, 1, 2] (shapeCast S4x9x4x40x40
      (addf (F := Ideal) (φ := .f32) (transpose S4x36x40x40 [0, 3, 1, 2]
        (Host.dotGeneral (F := Ideal) (φ₁ := .f32) (φ₂ := .f32) dot_S4x256x40x40_S36x256_S4x40x40x36_1_1_023_0_n_n none (hid X W B)
          (shapeCast _ V shapeCasts_S36x256x1x1_S36x256)) transposes_S4x40x40x36_S4x36x40x40_0_3_1_2)
        (broadcastInDim S4x36x40x40 ![0, 1, 2, 3] bcast_S1x36x1x1_S4x36x40x40_0_1_2_3
          (broadcastInDim S1x36x1x1 ![1] bcast_S36_S1x36x1x1_1 D))) shapeCasts_S4x36x40x40_S4x9x4x40x40)
        transposes_S4x9x4x40x40_S4x40x40x9x4_0_3_4_1_2) shapeCasts_S4x40x40x9x4_S4x14400x4) (ix3 b q f)
      = head X W B V D b ⟨q % 9 * 4 + f, by omega⟩ (q / 360) (q / 9 % 40) := by
  pointwise [hid_apply]
  simp only [mul_comm (hidden _ _ _ _ _ _ _)]
  rfl

/-- The reference's anchor table. -/
def anchors : S40x40x9x4.Idx → EReal :=
  Value.fn_main_v71 (F := Ideal)
    (broadcastInDim S40x40x9x1 ![0, 1, 2] bcast_S40x40x9_S40x40x9x1_0_1_2 (broadcastInDim S40x40x9 ![0, 1, 2] bcast_S40x40x1_S40x40x9_0_1_2 (broadcastInDim S40x40x1 ![0, 1] bcast_S40x40_S40x40x1_0_1 (broadcastInDim S40x40 ![1] bcast_S40_S40x40_1 (mulf (F := Ideal) (φ := .f32) (addf (F := Ideal) (φ := .f32) (sitofp .f32 (iotaInDim S40 32 0)) (broadcastInDim S40 ![] bcast_S_S40 (constant S_ .f32 0x3F000000#32))) (broadcastInDim S40 ![] bcast_S_S40 (constant S_ .f32 0x41800000#32)))))))
    (broadcastInDim S40x40x9x1 ![0, 1, 2] bcast_S40x40x9_S40x40x9x1_0_1_2 (broadcastInDim S40x40x9 ![0, 1, 2] bcast_S40x40x1_S40x40x9_0_1_2 (broadcastInDim S40x40x1 ![0, 1] bcast_S40x40_S40x40x1_0_1 (broadcastInDim S40x40 ![0] bcast_S40_S40x40_0 (mulf (F := Ideal) (φ := .f32) (addf (F := Ideal) (φ := .f32) (sitofp .f32 (iotaInDim S40 32 0)) (broadcastInDim S40 ![] bcast_S_S40 (constant S_ .f32 0x3F000000#32))) (broadcastInDim S40 ![] bcast_S_S40 (constant S_ .f32 0x41800000#32)))))))
    (broadcastInDim S40x40x9x1 ![0, 1, 2] bcast_S40x40x9_S40x40x9x1_0_1_2 (broadcastInDim S40x40x9 ![0, 1, 2] bcast_S1x1x9_S40x40x9_0_1_2 (broadcastInDim S1x1x9 ![2] bcast_S9_S1x1x9_2 (shapeCast _ (extractStridedSlice S9x1 ![0, 0] ((fun i => FloatOps.ofBits (F := Ideal) .f32 (lit0 (S9x2.rowMajor i)))) slices_S9x2_S9x1_0_0) shapeCasts_S9x1_S9))))
    (broadcastInDim S40x40x9x1 ![0, 1, 2] bcast_S40x40x9_S40x40x9x1_0_1_2 (broadcastInDim S40x40x9 ![0, 1, 2] bcast_S1x1x9_S40x40x9_0_1_2 (broadcastInDim S1x1x9 ![2] bcast_S9_S1x1x9_2 (shapeCast _ (extractStridedSlice S9x1 ![0, 1] ((fun i => FloatOps.ofBits (F := Ideal) .f32 (lit0 (S9x2.rowMajor i)))) slices_S9x2_S9x1_0_1) shapeCasts_S9x1_S9))))

/-- The centre as the reference computes it: half a step is added to the position, and the sum scaled by the stride. -/
theorem centre_eq (n : ℕ) (h : n < 40) :
    (FloatOps.sitofp (F := Ideal) FTy.f32 (BitVec.ofNat 32 n) + Ideal.ofBits FTy.f32 1056964608#32 : EReal)
      * Ideal.ofBits FTy.f32 1098907648#32 = centreAt n := by
  have h0 : (FloatOps.sitofp (F := Ideal) FTy.f32 (BitVec.ofNat 32 n) : EReal) = ((n : ℝ) : EReal) := by
    show (((BitVec.ofNat 32 n).toInt : ℝ) : EReal) = _
    rw [BitVec.toInt_eq_toNat_of_lt (by simp [BitVec.toNat_ofNat]; omega), BitVec.toNat_ofNat, Nat.mod_eq_of_lt (by omega)]
    norm_num
  have h1 : (Ideal.ofBits FTy.f32 1056964608#32 : EReal) = ((1 / 2 : ℝ) : EReal) := by
    simp [Ideal.ofBits, Ideal.ieee, -EReal.coe_mul]; norm_num
  have h2 : (Ideal.ofBits FTy.f32 1098907648#32 : EReal) = ((16 : ℝ) : EReal) := by
    simp [Ideal.ofBits, Ideal.ieee, -EReal.coe_mul]; norm_num
  rw [h0, h1, h2, centreAt, EReal.coe_mul, EReal.coe_add]

/-- The anchors read at an index: box `q` of an image has the centre of its column, the centre of its row, and the width
    and the height of anchor `q % 9`. -/
theorem anchors_apply (b : Fin 4) (q : Fin 14400) (f : Fin 4) :
    broadcastInDim S4x14400x4 ![0, 1, 2] bcast_S1x14400x4_S4x14400x4_0_1_2 (broadcastInDim S1x14400x4 ![1, 2] bcast_S14400x4_S1x14400x4_1_2
      (shapeCast S14400x4 anchors shapeCasts_S40x40x9x4_S14400x4)) (ix3 b q f)
      = (![centreAt (q / 9 % 40), centreAt (q / 360), Ideal.ofBits .f32 (lit0 ⟨q % 9 * 2, by omega⟩),
          Ideal.ofBits .f32 (lit0 ⟨q % 9 * 2 + 1, by omega⟩)] : Fin 4 → EReal) f := by
  have hw (k : Fin 2) : S9x2.rowMajor (ix2 (n0 := 9) (n1 := 2) ⟨q % 9, by omega⟩ k) = ⟨q % 9 * 2 + k, show _ < 18 by omega⟩ :=
    Fin.ext (Shape.rowMajor_val_two _)
  unfold anchors Value.fn_main_v71
  fin_cases f <;> pointwise
  · exact centre_eq _ (by omega)
  · exact centre_eq _ (by omega)
  · exact congrArg (fun k => Ideal.ofBits .f32 (lit0 k)) (hw 0)
  · exact congrArg (fun k => Ideal.ofBits .f32 (lit0 k)) (hw 1)

/-! ## The reference's run in these terms -/

section Results

variable (m : (ℓ : Loc nD τ sig) → Buf (Elt Ideal) ℓ) (c : Dev nD)

/-- Result 1 read at an index. -/
theorem res1_apply (b : Fin 4) (q : Fin 14400) : Value.res_main_v39 m c (ix3 b q 0)
    = head (m ((c : Thread nD τ).loc main_arg0)) (m ((c : Thread nD τ).loc main_arg1)) (m ((c : Thread nD τ).loc main_arg2))
        (m ((c : Thread nD τ).loc main_arg3)) (m ((c : Thread nD τ).loc main_arg4)) b ⟨q / 1600, by omega⟩ (q / 40 % 40) (q % 40) := by
  refine Eq.trans ?_ (obj_apply _ _ _ _ _ b q)
  rfl

/-- Result 2 read at an index. -/
theorem res2_apply (b : Fin 4) (q : Fin 14400) (f : Fin 4) : Value.res_main_v42 m c (ix3 b q f)
    = head (m ((c : Thread nD τ).loc main_arg0)) (m ((c : Thread nD τ).loc main_arg1)) (m ((c : Thread nD τ).loc main_arg2))
        (m ((c : Thread nD τ).loc main_arg5)) (m ((c : Thread nD τ).loc main_arg6)) b ⟨q % 9 * 4 + f, by omega⟩ (q / 360) (q / 9 % 40) := by
  refine Eq.trans ?_ (box_apply _ _ _ _ _ b q f)
  rfl

/-- Result 3: the reference's anchors, one copy per image. -/
def res3 : S4x14400x4.Idx → EReal := broadcastInDim S4x14400x4 ![0, 1, 2] bcast_S1x14400x4_S4x14400x4_0_1_2
  (broadcastInDim S1x14400x4 ![1, 2] bcast_S14400x4_S1x14400x4_1_2 (shapeCast S14400x4 anchors shapeCasts_S40x40x9x4_S14400x4))

end Results

end Cert.Rpn.Ref

end

end
-- ==== Proof.Conforms.lean ====
/-
  The kernel's three results are the reference's, for arguments that agree: both are the same formula at every index.
-/
module

public import proofs.«01_k».proof.Defs
public import proofs.«01_k».proof.Proof.Arrays
public import proofs.«01_k».proof.Proof.Anchors
public import proofs.«01_k».proof.Proof.RefValue
public import Idealize.ShloMosaic.Lib.Quiescent

@[expose] public section

noncomputable section

namespace Cert.Rpn

open Idealize.ShloMosaic Idealize.ShloMosaic.TcCoe Idealize.SL.Sem

/-! ## The anchors -/

/-- The fields of a centre's word: no sign, a normal exponent, and the significand the centre times a power of two. -/
theorem centre_fields : ∀ n : Fin 40, ((centre n).extractLsb' 31 1 == 1#1) = false
    ∧ ((centre n).extractLsb' 23 8).toNat ≠ 255 ∧ ((centre n).extractLsb' 23 8).toNat ≠ 0 ∧ ((centre n).extractLsb' 23 8).toNat ≤ 150
    ∧ 2 ^ 23 + ((centre n).extractLsb' 0 23).toNat = (16 * n.val + 8) * 2 ^ (150 - ((centre n).extractLsb' 23 8).toNat) := by
  decide +kernel

/-- The word of a centre denotes the centre. -/
theorem centre_value (n : Fin 40) : (Ideal.ofBits .f32 (centre n) : EReal) = centreAt n := by
  obtain ⟨hs, h255, h0, hle, hv⟩ := centre_fields n
  generalize centre n = w at hs h255 h0 hle hv
  show Ideal.ieee 8 23 w = _
  unfold Ideal.ieee
  simp only [show 8 + 23 = 31 from rfl, hs, hv]
  rw [if_neg (by simpa using h255), if_neg h0]
  generalize (w.extractLsb' 23 8).toNat = x at hle
  refine congrArg _ ?_
  have hz : ((x : ℤ) - (2 ^ (8 - 1) - 1) - ((23 : ℕ) : ℤ)) = -((150 - x : ℕ) : ℤ) := by
    rw [Nat.cast_sub hle]; norm_num; ring
  rw [hz, zpow_neg, zpow_natCast]
  push_cast
  field_simp
  norm_num
  ring

/-- The kernel's anchors are the reference's. -/
theorem anchors_eq : Ker.res3 = Ref.res3 := by
  funext i
  obtain ⟨b, q, f, rfl⟩ : ∃ b q f, i = ix3 b q f := ⟨_, _, _, eq_ix3 i⟩
  rw [Ker.res3_apply]
  refine Eq.trans ?_ (Ref.anchors_apply b q f).symm
  have e : q.val / 360 * 360 + q.val / 9 % 40 * 9 + q.val % 9 = q.val := by omega
  have t := table ⟨q / 360, by omega⟩ ⟨q / 9 % 40, by omega⟩ ⟨q % 9, by omega⟩
  simp only [e] at t
  generalize Cert.KernelIdeal.lit0 = K at t ⊢
  generalize Cert.ReferenceIdeal.lit0 = R at t ⊢
  obtain ⟨t0, t1, t2, t3⟩ := t
  fin_cases f
  · exact (congrArg (Ideal.ofBits .f32) t0).trans (centre_value ⟨q / 9 % 40, by omega⟩)
  · exact (congrArg (Ideal.ofBits .f32) t1).trans (centre_value ⟨q / 360, by omega⟩)
  · exact congrArg (Ideal.ofBits .f32) t2
  · exact congrArg (Ideal.ofBits .f32) t3

end Cert.Rpn

/-! ## The kernel's run -/

namespace Cert.Rpn.Ker

open Idealize.ShloMosaic Idealize.ShloMosaic.TcCoe Idealize.SL.Sem
open Cert.KernelIdeal Cert.KernelIdeal.Gen

/-- The kernel's run: its three results named, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = res1 m c
      ∧ r.2.mem ((c.tc : Thread nD τ).loc main_v18) = res2 m c
      ∧ r.2.mem ((c.tc : Thread nD τ).loc main_v20) = res3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (run_main m ρ)
  have rest (b : Ref sig .tc) (hs : b ∈ Pipeline.restRefs sig spec0) := (h c).2 b hs
  exact ⟨(rest main_v14 (Pipeline.mem_restRefs_of main_v14 (by decide) (by decide))).trans (tail1 m c),
    (rest main_v18 (Pipeline.mem_restRefs_of main_v18 (by decide) (by decide))).trans (tail2 m c),
    (rest main_v20 (Pipeline.mem_restRefs_of main_v20 (by decide) (by decide))).trans (tail3 m c),
    (rest main_arg0 (Pipeline.mem_restRefs_of main_arg0 (by decide) (by decide))).trans (W_main_arg0 m _ c),
    (rest main_arg1 (Pipeline.mem_restRefs_of main_arg1 (by decide) (by decide))).trans (W_main_arg1 m _ c),
    (rest main_arg2 (Pipeline.mem_restRefs_of main_arg2 (by decide) (by decide))).trans (W_main_arg2 m _ c),
    (rest main_arg3 (Pipeline.mem_restRefs_of main_arg3 (by decide) (by decide))).trans (W_main_arg3 m _ c),
    (rest main_arg4 (Pipeline.mem_restRefs_of main_arg4 (by decide) (by decide))).trans (W_main_arg4 m _ c),
    (rest main_arg5 (Pipeline.mem_restRefs_of main_arg5 (by decide) (by decide))).trans (W_main_arg5 m _ c),
    (rest main_arg6 (Pipeline.mem_restRefs_of main_arg6 (by decide) (by decide))).trans (W_main_arg6 m _ c)⟩

end Cert.Rpn.Ker

/-! ## The claim -/

namespace Cert.Rpn

open Idealize.ShloMosaic Idealize.ShloMosaic.TcCoe Idealize.SL.Sem

/-- The kernel and the reference compute the same three results over the extended reals. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨Ker.res1 m, Ker.res2 m, fun _ => Ker.res3, Ker.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨h1, h2, h3, hargs⟩ := h c
  refine ⟨h1.trans ?_, h2.trans ?_, (h3.trans (rfl : _ = Ref.res3)).trans anchors_eq.symm, hargs⟩
  · funext i
    obtain ⟨b, q, z, rfl⟩ : ∃ b q z, i = ix3 b q z := ⟨_, _, _, eq_ix3 i⟩
    obtain rfl : z = 0 := Subsingleton.elim _ _
    rw [Ker.res1_apply]
    refine (Ref.res1_apply m' c b q).trans ?_
    rw [a0, a1, a2, a3, a4]
  · funext i
    obtain ⟨b, q, f, rfl⟩ : ∃ b q f, i = ix3 b q f := ⟨_, _, _, eq_ix3 i⟩
    rw [Ker.res2_apply]
    refine (Ref.res2_apply m' c b q f).trans ?_
    rw [a0, a1, a2, a5, a6]

end Cert.Rpn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Conforms
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to its end with its arguments unchanged; it has no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial,
  Cert.Rpn.algebraic⟩

end Cert.Proof

end
